-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S8x2048x4096 : Shape := ⟨3, ![8, 2048, 4096]⟩
abbrev S8x2048x512 : Shape := ⟨3, ![8, 2048, 512]⟩
abbrev S16 : Shape := ⟨1, ![16]⟩
abbrev S2 : Shape := ⟨1, ![2]⟩
abbrev S2x8 : Shape := ⟨2, ![2, 8]⟩
abbrev S2x1 : Shape := ⟨2, ![2, 1]⟩
abbrev S_ : Shape := ⟨0, ![]⟩

class Facts : Prop where
  shapeCasts_S16_S2x8 : S16.ShapeCasts S2x8
  bcast_S2_S2x1_0 : S2.BroadcastsInDim S2x1 (![0] : Fin 1 → Fin S2x1.rank)
  bcast_S2x1_S2x8_0_1 : S2x1.BroadcastsInDim S2x8 (![0, 1] : Fin 2 → Fin S2x8.rank)
  bcast_S_S2x8 : S_.BroadcastsInDim S2x8 (![] : Fin 0 → Fin S2x8.rank)

variable [Facts]

def fn {F : FTy → Type} [FloatOps F] (main_arg0 : FVec F S8x2048x4096 .fp8e4m3) (main_arg1 : FVec F S8x2048x512 .fp8e4m3) (main_arg2 : FVec F S8x2048x512 .fp8e4m3) (main_arg3 : FVec F S16 .f32) (main_arg4 : FVec F S2 .f32) (main_arg5 : FVec F S2 .f32) : IVec S2x8 1 × IVec S2x8 1 :=
  let main_v0 : FVec F S2x8 .f32 := shapeCast S2x8 main_arg3 shapeCasts_S16_S2x8
  let main_v1 : FVec F S2x1 .f32 := broadcastInDim S2x1 ![0] bcast_S2_S2x1_0 main_arg4
  let main_v2 : FVec F S2x8 .f32 := broadcastInDim S2x8 ![0, 1] bcast_S2x1_S2x8_0_1 main_v1
  let main_v3 : FVec F S2x8 .f32 := mulf main_v0 main_v2
  let main_cst : FVec F S_ .f32 := constant S_ .f32 0x00000000#32
  let main_v4 : FVec F S2x8 .f32 := broadcastInDim S2x8 ![] bcast_S_S2x8 main_cst
  let main_v5 : IVec S2x8 1 := cmpf .oge main_v3 main_v4
  let main_cst_0 : FVec F S_ .f32 := constant S_ .f32 0x7F800000#32
  let main_v6 : FVec F S2x8 .f32 := broadcastInDim S2x8 ![] bcast_S_S2x8 main_cst_0
  let main_v7 : IVec S2x8 1 := cmpf .olt main_v3 main_v6
  (main_v5, main_v7)
-- ==== Kernel.lean ====
abbrev S8x2048x4096 : Shape := ⟨3, ![8, 2048, 4096]⟩
abbrev S8x2048x512 : Shape := ⟨3, ![8, 2048, 512]⟩
abbrev S16 : Shape := ⟨1, ![16]⟩
abbrev S2 : Shape := ⟨1, ![2]⟩
abbrev S2x8 : Shape := ⟨2, ![2, 8]⟩
abbrev S2x1 : Shape := ⟨2, ![2, 1]⟩
abbrev S_ : Shape := ⟨0, ![]⟩
abbrev S1x16 : Shape := ⟨2, ![1, 16]⟩
abbrev S3x16 : Shape := ⟨2, ![3, 16]⟩
abbrev S1x512x2048 : Shape := ⟨3, ![1, 512, 2048]⟩
abbrev S1x2048x256 : Shape := ⟨3, ![1, 2048, 256]⟩
abbrev S2048x256 : Shape := ⟨2, ![2048, 256]⟩
abbrev S1x1 : Shape := ⟨2, ![1, 1]⟩
abbrev S1x256x256 : Shape := ⟨3, ![1, 256, 256]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩

abbrev nBuf : Space → Nat
  | .hbm => 25
  | .vmem => 8
  | .smem => 1
  | _ => 0

abbrev bufTy : (tb : Table) → Fin (tcTables nBuf tb) → BufTy
  | .hbm, ⟨0, _⟩ => ⟨S8x2048x4096, .fp8e4m3⟩
  | .hbm, ⟨1, _⟩ => ⟨S8x2048x512, .fp8e4m3⟩
  | .hbm, ⟨2, _⟩ => ⟨S8x2048x512, .fp8e4m3⟩
  | .hbm, ⟨3, _⟩ => ⟨S16, .f32⟩
  | .hbm, ⟨4, _⟩ => ⟨S2, .f32⟩
  | .hbm, ⟨5, _⟩ => ⟨S2, .f32⟩
  | .hbm, ⟨6, _⟩ => ⟨S2x8, .f32⟩
  | .hbm, ⟨7, _⟩ => ⟨S2x1, .f32⟩
  | .hbm, ⟨8, _⟩ => ⟨S2x8, .f32⟩
  | .hbm, ⟨9, _⟩ => ⟨S2x8, .f32⟩
  | .hbm, ⟨10, _⟩ => ⟨S_, .f32⟩
  | .hbm, ⟨11, _⟩ => ⟨S2x8, .f32⟩
  | .hbm, ⟨12, _⟩ => ⟨S2x8, .f32⟩
  | .hbm, ⟨13, _⟩ => ⟨S16, .f32⟩
  | .hbm, ⟨14, _⟩ => ⟨S_, .f32⟩
  | .hbm, ⟨15, _⟩ => ⟨S2, .f32⟩
  | .hbm, ⟨16, _⟩ => ⟨S2, .f32⟩
  | .hbm, ⟨17, _⟩ => ⟨S2x8, .f32⟩
  | .hbm, ⟨18, _⟩ => ⟨S16, .f32⟩
  | .hbm, ⟨19, _⟩ => ⟨S16, .f32⟩
  | .hbm, ⟨20, _⟩ => ⟨S1x16, .f32⟩
  | .hbm, ⟨21, _⟩ => ⟨S1x16, .f32⟩
  | .hbm, ⟨22, _⟩ => ⟨S1x16, .f32⟩
  | .hbm, ⟨23, _⟩ => ⟨S3x16, .f32⟩
  | .hbm, ⟨24, _⟩ => ⟨S8x2048x4096, .bf16⟩
  | .local _ .vmem, ⟨0, _⟩ => ⟨S1x512x2048, .fp8e4m3⟩
  | .local _ .vmem, ⟨1, _⟩ => ⟨S1x512x2048, .fp8e4m3⟩
  | .local _ .vmem, ⟨2, _⟩ => ⟨S1x2048x256, .fp8e4m3⟩
  | .local _ .vmem, ⟨3, _⟩ => ⟨S1x2048x256, .fp8e4m3⟩
  | .local _ .vmem, ⟨4, _⟩ => ⟨S1x2048x256, .fp8e4m3⟩
  | .local _ .vmem, ⟨5, _⟩ => ⟨S1x2048x256, .fp8e4m3⟩
  | .local _ .vmem, ⟨6, _⟩ => ⟨S1x512x2048, .bf16⟩
  | .local _ .vmem, ⟨7, _⟩ => ⟨S1x512x2048, .bf16⟩
  | .local _ .smem, ⟨0, _⟩ => ⟨S3x16, .f32⟩
  | _, _ => ⟨S8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 2, 4], ![false, false, false]⟩

def k0_off1 (i : grid0.Coords) (c0_i32 : BitVec 32) : Fin 2 → Nat :=
  let c0_5 : Index := 0#32
  let arg1 : BitVec 32 := BitVec.ofNat 32 (i 1).val
  let c8_i32 : BitVec 32 := 8#32
  let v4 : BitVec 32 := Scalar.muli arg1 c8_i32
  let v5 : BitVec 32 := Scalar.addi v4 c0_i32
  let v6 : Index := Scalar.indexCast v5
  ![0, v6.toNat]
def k0_off2 (i : grid0.Coords) (c0_i32 : BitVec 32) : Fin 2 → Nat :=
  let c1 : Index := 1#32
  let arg1 : BitVec 32 := BitVec.ofNat 32 (i 1).val
  let c8_i32 : BitVec 32 := 8#32
  let v4 : BitVec 32 := Scalar.muli arg1 c8_i32
  let v5 : BitVec 32 := Scalar.addi v4 c0_i32
  let v9 : Index := Scalar.indexCast v5
  ![1, v9.toNat]
def k0_off3 (i : grid0.Coords) (c0_i32 : BitVec 32) : Fin 2 → Nat :=
  let c2 : Index := 2#32
  let arg1 : BitVec 32 := BitVec.ofNat 32 (i 1).val
  let c8_i32 : BitVec 32 := 8#32
  let v4 : BitVec 32 := Scalar.muli arg1 c8_i32
  let v5 : BitVec 32 := Scalar.addi v4 c0_i32
  let v12 : Index := Scalar.indexCast v5
  ![2, v12.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S8x2048x4096 : Shape := ⟨3, ![8, 2048, 4096]⟩
abbrev S8x2048x512 : Shape := ⟨3, ![8, 2048, 512]⟩
abbrev S16 : Shape := ⟨1, ![16]⟩
abbrev S2 : Shape := ⟨1, ![2]⟩
abbrev S8x2048x2x8x256 : Shape := ⟨5, ![8, 2048, 2, 8, 256]⟩
abbrev S8x2048x2x256 : Shape := ⟨4, ![8, 2048, 2, 256]⟩
abbrev S2x8 : Shape := ⟨2, ![2, 8]⟩
abbrev S2x1 : Shape := ⟨2, ![2, 1]⟩
abbrev S8x2x2048x2048x8 : Shape := ⟨5, ![8, 2, 2048, 2048, 8]⟩
abbrev S8x2x8x2048x2048 : Shape := ⟨5, ![8, 2, 8, 2048, 2048]⟩
abbrev S1x2x8x1x1 : Shape := ⟨5, ![1, 2, 8, 1, 1]⟩
abbrev S8x2x8x2048 : Shape := ⟨4, ![8, 2, 8, 2048]⟩
abbrev S8x2x8x2048x1 : Shape := ⟨5, ![8, 2, 8, 2048, 1]⟩
abbrev S8x2x256x8x2048 : Shape := ⟨5, ![8, 2, 256, 8, 2048]⟩
abbrev S1x1x2x1x1 : Shape := ⟨5, ![1, 1, 2, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x4096, .fp8e4m3⟩
  | .hbm, ⟨1, _⟩ => ⟨S8x2048x512, .fp8e4m3⟩
  | .hbm, ⟨2, _⟩ => ⟨S8x2048x512, .fp8e4m3⟩
  | .hbm, ⟨3, _⟩ => ⟨S16, .f32⟩
  | .hbm, ⟨4, _⟩ => ⟨S2, .f32⟩
  | .hbm, ⟨5, _⟩ => ⟨S2, .f32⟩
  | .hbm, ⟨6, _⟩ => ⟨S8x2048x4096, .bf16⟩
  | .local _ .vmem, ⟨0, _⟩ => ⟨S8x2048x4096, .fp8e4m3⟩
  | .local _ .vmem, ⟨1, _⟩ => ⟨S8x2048x512, .fp8e4m3⟩
  | .local _ .vmem, ⟨2, _⟩ => ⟨S8x2048x512, .fp8e4m3⟩
  | .local _ .vmem, ⟨3, _⟩ => ⟨S16, .f32⟩
  | .local _ .vmem, ⟨4, _⟩ => ⟨S2, .f32⟩
  | .local _ .vmem, ⟨5, _⟩ => ⟨S2, .f32⟩
  | .local _ .vmem, ⟨6, _⟩ => ⟨S8x2048x4096, .bf16⟩
  | _, _ => ⟨S8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Row.lean ====
/- One row of attention over the extended reals: the row the kernel computes and the row the reference computes are equal.
   No program occurs here; `s` holds one query's raw scores against every key, `v` one column of the values. -/
module

public import Idealize.ShloMosaic.PureOps.Ideal.Laws

@[expose] public section

noncomputable section

namespace Cert.Row

open Idealize.ShloMosaic
open scoped BigOperators

variable {n : ℕ}

/-- The greatest of the values of `s`, taken from −∞. -/
def top (s : Fin n → EReal) : EReal := Finset.univ.fold max ⊥ s

/-- The kernel's weight of a key: the base-2 exponential of its score's distance from the greatest, times `a`. -/
def kernelExp (s : Fin n → EReal) (a : EReal) (k : Fin n) : EReal := Ideal.exp2 ((s k - top s) * a)

/-- The kernel's row: the weights divided by a 256th of their sum, capped at 448, contracted with the values, times `o`. -/
def kernelRow (s v : Fin n → EReal) (a o : EReal) : EReal :=
  (∑ k, min (kernelExp s a k * Ideal.div 1 ((∑ k', kernelExp s a k') * ((1 / 256 : ℝ) : EReal))) ((448 : ℝ) : EReal) * v k) * o

/-- The reference's weight of a key: the exponential of its scaled score's distance from the greatest scaled score. -/
def referenceExp (s : Fin n → EReal) (c : EReal) (k : Fin n) : EReal := Ideal.exp (s k * c - top fun k => s k * c)

/-- The reference's row: the weights divided by their sum, times 256, capped at 448, contracted with the values, times `o`. -/
def referenceRow (s v : Fin n → EReal) (c o : EReal) : EReal :=
  (∑ k, v k * min (referenceExp s c k * Ideal.div 1 (∑ k', referenceExp s c k') * ((256 : ℝ) : EReal)) ((448 : ℝ) : EReal)) * o

/-- The greatest value bounds every value. -/
theorem le_top (s : Fin n → EReal) (k : Fin n) : s k ≤ top s :=
  Finset.le_sup (f := s) (Finset.mem_univ k)

/-- Scaling by a nonnegative real scales the greatest of finitely many (at least one) values. -/
theorem top_mul [NeZero n] (s : Fin n → EReal) {r : ℝ} (hr : 0 ≤ r) : (top fun k => s k * (r : EReal)) = top s * (r : EReal) := by
  have hm : Monotone fun x : EReal => x * (r : EReal) := fun x y h => mul_le_mul_of_nonneg_right h (EReal.coe_nonneg.mpr hr)
  have hne : (Finset.univ : Finset (Fin n)).Nonempty := Finset.univ_nonempty
  show Finset.univ.sup (fun k => s k * (r : EReal)) = Finset.univ.sup s * (r : EReal)
  rw [← Finset.sup'_eq_sup hne, ← Finset.sup'_eq_sup hne]
  exact (Finset.comp_sup'_eq_sup'_comp hne (fun x : EReal => x * (r : EReal)) (fun x y => hm.map_sup x y)).symm

/-- Multiplication by a nonnegative real distributes over a difference of extended reals. -/
theorem sub_mul_coe (x y : EReal) {r : ℝ} (hr : 0 ≤ r) : (x - y) * (r : EReal) = x * r - y * r := by
  rw [sub_eq_add_neg, EReal.right_distrib_of_nonneg_of_ne_top (EReal.coe_nonneg.mpr hr) (EReal.coe_ne_top r), EReal.neg_mul,
    ← sub_eq_add_neg]

/-- The base-2 exponential of a quotient by the logarithm of 2 is the exponential, at the infinities too. -/
theorem exp2_mul_inv_log (x : EReal) : Ideal.exp2 (x * (((Real.log 2)⁻¹ : ℝ) : EReal)) = Ideal.exp x := by
  have h2 : 0 < Real.log 2 := Real.log_pos one_lt_two
  induction x with
  | bot => rw [EReal.bot_mul_coe_of_pos (inv_pos.mpr h2)]; rfl
  | top => rw [EReal.top_mul_coe_of_pos (inv_pos.mpr h2)]; rfl
  | coe x =>
    rw [← EReal.coe_mul]
    show ((Real.rpow 2 (x * (Real.log 2)⁻¹) : ℝ) : EReal) = ((Real.exp x : ℝ) : EReal)
    congr 1
    show (2 : ℝ) ^ (x * (Real.log 2)⁻¹) = Real.exp x
    rw [Real.rpow_def_of_pos two_pos]
    congr 1
    field_simp

/-- The kernel's weights, at the scale times `1 / log 2`, are the reference's weights. -/
theorem kernelExp_eq [NeZero n] (s : Fin n → EReal) {r : ℝ} (hr : 0 ≤ r) (k : Fin n) :
    kernelExp s ((r : EReal) * (((Real.log 2)⁻¹ : ℝ) : EReal)) k = referenceExp s r k := by
  unfold kernelExp referenceExp
  rw [← mul_assoc, exp2_mul_inv_log, sub_mul_coe _ _ hr, top_mul s hr]

/-- The exponential of a nonpositive extended real is a nonnegative real of at most 1. -/
theorem exp_of_nonpos {x : EReal} (hx : x ≤ 0) : ∃ e : ℝ, 0 ≤ e ∧ Ideal.exp x = (e : EReal) := by
  induction x with
  | bot => exact ⟨0, le_rfl, rfl⟩
  | top => exact absurd hx (by simp)
  | coe x => exact ⟨Real.exp x, (Real.exp_pos x).le, rfl⟩

/-- Every weight of the reference is a nonnegative real. -/
theorem referenceExp_real (s : Fin n → EReal) (c : EReal) (k : Fin n) : ∃ e : ℝ, 0 ≤ e ∧ referenceExp s c k = (e : EReal) := by
  refine exp_of_nonpos ((EReal.sub_le_sub (le_top (fun k => s k * c) k) le_rfl).trans ?_)
  exact EReal.sub_self_le_zero

/-- Dividing by a 256th of the weights' sum is dividing by the sum and multiplying by 256. Where the sum is zero, so is the
    weight, and both products are zero. -/
theorem weight_eq (e : ℝ) (d : ℝ) (hd : d = 0 → e = 0) :
    (e : EReal) * Ideal.div 1 ((d : EReal) * ((1 / 256 : ℝ) : EReal)) = (e : EReal) * Ideal.div 1 (d : EReal) * ((256 : ℝ) : EReal) := by
  by_cases h : d = 0
  · rw [hd h]; simp
  · have h1 : (d : EReal) ≠ 0 := by simpa using h
    have h2 : ((d * (1 / 256) : ℝ) : EReal) ≠ 0 := by
      simpa using h
    rw [← EReal.coe_mul]
    unfold Ideal.div
    rw [if_neg h1, if_neg h2, one_mul, one_mul, ← EReal.coe_inv, ← EReal.coe_inv, ← EReal.coe_mul, ← EReal.coe_mul, ← EReal.coe_mul]
    congr 1
    field_simp

/-- THE ROW: at a nonnegative real scale `r` the kernel's row, given the scale times `1 / log 2`, is the reference's row, for
    any scores, values and output scale, infinities included. -/
theorem kernelRow_eq [NeZero n] (s v : Fin n → EReal) {r : ℝ} (hr : 0 ≤ r) (o : EReal) :
    kernelRow s v ((r : EReal) * (((Real.log 2)⁻¹ : ℝ) : EReal)) o = referenceRow s v r o := by
  unfold kernelRow referenceRow
  simp only [kernelExp_eq s hr]
  choose e he hee using referenceExp_real s (r : EReal)
  simp only [hee]
  have hs : (∑ k, (e k : EReal)) = ((∑ k, e k : ℝ) : EReal) := by
    exact (map_sum (⟨⟨fun x : ℝ => (x : EReal), EReal.coe_zero⟩, EReal.coe_add⟩ : ℝ →+ EReal) e Finset.univ).symm
  rw [hs]
  congr 1
  refine Finset.sum_congr rfl fun k _ => ?_
  rw [mul_comm, weight_eq]
  intro h
  exact (Finset.sum_eq_zero_iff_of_nonneg fun k _ => he k).mp h k (Finset.mem_univ k)

end Cert.Row

end
-- ==== Proof.Spec.lean ====
/- Grouped-query attention over the extended reals as one function of the six argument arrays, at one element of the result. -/
module

public import proofs.«01_k».proof.Proof.Row
public import Idealize.ShloMosaic.Lib.Pointwise

@[expose] public section

noncomputable section

namespace Cert.Spec

open Idealize.ShloMosaic
open scoped BigOperators

/-- The index set of the queries and of the result: batch, position, head and dimension in one axis. -/
abbrev Wide : Shape := ⟨3, ![8, 2048, 4096]⟩
/-- The index set of the keys and of the values: batch, position, key head and dimension in one axis. -/
abbrev Narrow : Shape := ⟨3, ![8, 2048, 512]⟩
/-- The 16 query heads. -/
abbrev Heads : Shape := ⟨1, ![16]⟩
/-- The 2 key and value heads. -/
abbrev Groups : Shape := ⟨1, ![2]⟩

/-- The key head that query head `h` reads: eight query heads share one. -/
def group (h : Fin 16) : Fin 2 := ⟨h.val / 8, by omega⟩
/-- Dimension `d` of query head `h` in the queries' last axis. -/
def wide (h : Fin 16) (d : Fin 256) : Fin 4096 := ⟨h.val * 256 + d.val, by omega⟩
/-- Dimension `d` of key head `g` in the keys' and values' last axis. -/
def narrow (g : Fin 2) (d : Fin 256) : Fin 512 := ⟨g.val * 256 + d.val, by omega⟩

/-- The raw scores of query `q` of head `h` in batch member `b` against every key. -/
def scores (x : Wide.Idx → EReal) (k : Narrow.Idx → EReal) (b : Fin 8) (q : Fin 2048) (h : Fin 16) (t : Fin 2048) : EReal :=
  ∑ d : Fin 256, x (ix3 b q (wide h d)) * k (ix3 b t (narrow (group h) d))

/-- Column `d` of the values that head `h` reads in batch member `b`. -/
def column (v : Narrow.Idx → EReal) (b : Fin 8) (h : Fin 16) (d : Fin 256) (t : Fin 2048) : EReal :=
  v (ix3 b t (narrow (group h) d))

/-- The scale of head `h`'s scores: the query scale times the key scale, divided by 16, the square root of 256. -/
def scale (qs : Heads.Idx → EReal) (ks : Groups.Idx → EReal) (h : Fin 16) : EReal :=
  qs (ix1 h) * ks (ix1 (group h)) * ((1 / 16 : ℝ) : EReal)

/-- The scale of head `h`'s output: the value scale divided by 256, the factor on the weights. -/
def outScale (vs : Groups.Idx → EReal) (h : Fin 16) : EReal := vs (ix1 (group h)) * ((1 / 256 : ℝ) : EReal)

/-- Element (b, q, h, d) of the result. -/
def attention (x : Wide.Idx → EReal) (k v : Narrow.Idx → EReal) (qs : Heads.Idx → EReal) (ks vs : Groups.Idx → EReal)
    (b : Fin 8) (q : Fin 2048) (h : Fin 16) (d : Fin 256) : EReal :=
  Row.referenceRow (scores x k b q h) (column v b h d) (scale qs ks h) (outScale vs h)

/-! The float constants that the two programs print, as extended reals. -/

/-- 1 / 16 as the programs print it. -/
theorem ofBits_sixteenth : Ideal.ofBits .f32 0x3D800000#32 = ((1 / 16 : ℝ) : EReal) := by
  simp [Ideal.ofBits, Ideal.ieee]; norm_num [zpow_neg, ← EReal.coe_mul]

/-- 1 / 256 as the programs print it. -/
theorem ofBits_256th : Ideal.ofBits .f32 0x3B800000#32 = ((1 / 256 : ℝ) : EReal) := by
  simp [Ideal.ofBits, Ideal.ieee]; norm_num [zpow_neg, ← EReal.coe_mul]

/-- 256 as the programs print it. -/
theorem ofBits_256 : Ideal.ofBits .f32 0x43800000#32 = ((256 : ℝ) : EReal) := by
  simp [Ideal.ofBits, Ideal.ieee]; norm_num [zpow_neg, ← EReal.coe_mul]

/-- 448, the greatest finite value of the 8-bit format, as the programs print it. -/
theorem ofBits_448 : Ideal.ofBits .f32 0x43E00000#32 = ((448 : ℝ) : EReal) := by
  simp [Ideal.ofBits, Ideal.ieee]; norm_num [zpow_neg, ← EReal.coe_mul]

/-- −∞ as the programs print it. -/
theorem ofBits_bot : Ideal.ofBits .f32 0xFF800000#32 = (⊥ : EReal) := by
  simp [Ideal.ofBits, Ideal.ieee]

/-- +∞ as the programs print it. -/
theorem ofBits_top : Ideal.ofBits .f32 0x7F800000#32 = (⊤ : EReal) := by
  simp [Ideal.ofBits, Ideal.ieee]

end Cert.Spec

end
-- ==== Proof.Block.lean ====
/- What one grid point of the kernel computes, element by element of the block that it stores. -/
module

public import proofs.«01_k».proof.Proof.Spec
public import proofs.«01_k».proof.Proof.Gen.KernelIdeal.Value
public import Idealize.ShloMosaic.Lib.Pipeline.ValueKit

@[expose] public section

set_option maxRecDepth 16384

noncomputable section

namespace Cert.KernelIdeal.Block

open Cert.KernelIdeal Cert.KernelIdeal.Gen Idealize.ShloMosaic
open scoped BigOperators

/-- One of the sixteen units of a grid point (256 queries of one head), as a function of its operands: `v1` and `v3` the keys
    and the values, `a`, `b` and `o` the head's three scales, `x` the queries. -/
abbrev unit (v1 v3 : FVec Ideal S2048x256 .fp8e4m3) (a b o : Elt Ideal .f32) (x : Vec Ideal S1x256x256 .fp8e4m3) :
    Vec Ideal S1x256x256 .bf16 :=
  k0_pay41 (F := Ideal) v1 v3 a b o x

/-- A unit's element is the kernel's row of the query's scores and of the column of the values, where the scale `b`, whose
    sign the unit moves into the queries, is not negative. -/
theorem unit_apply (k v : Vec Ideal S1x2048x256 .fp8e4m3) (a b o : Elt Ideal .f32) (x : Vec Ideal S1x256x256 .fp8e4m3)
    (hb : ¬ (b : EReal) < 0) (z : Fin 1) (q d : Fin 256) :
    unit (k0_pay1 k) (k0_pay2 v) a b o x (ix3 z q d)
      = Row.kernelRow (fun t => ∑ e : Fin 256, x (ix3 0 q e) * k (ix3 0 t e)) (fun t => v (ix3 0 t d))
          (a * (((Real.log 2)⁻¹ : ℝ) : EReal)) o := by
  have hn : (Named.named κ "log2_e" 0x3FB8AA3B#32 : Ideal .f32) = (((Real.log 2)⁻¹ : ℝ) : EReal) :=
    IdealRules.named_const.ideal_named_scalar _ _ _ _ rfl
  unfold Row.kernelRow Row.kernelExp Row.top
  pointwise [k0_pay41]
  simp only [if_neg hb]
  pointwise [k0_pay1, k0_pay2]
  simp only [hn, Spec.ofBits_256th, Spec.ofBits_448, Spec.ofBits_bot]
  rfl

/-- The place of the three scales that a unit reads: rows 0, 1 and 2 of the scales, column `8 g + r` for key head `g` (the
    grid's second coordinate) and unit head `r`. -/
theorem offs (i : grid0.Coords) (r : Fin 8) :
    k0_off1 i (BitVec.ofNat 32 r.val) = ![0, (i 1).val * 8 + r.val] ∧ k0_off2 i (BitVec.ofNat 32 r.val) = ![1, (i 1).val * 8 + r.val]
      ∧ k0_off3 i (BitVec.ofNat 32 r.val) = ![2, (i 1).val * 8 + r.val] := by
  unfold k0_off1 k0_off2 k0_off3
  generalize hi : (i 1 : Fin 2) = g
  clear hi
  revert g r
  decide +kernel

/-- Head `8 g + r`. -/
def head (g : Fin 2) (r : ℕ) (hr : r < 8) : Fin 16 := ⟨g.val * 8 + r, by omega⟩

/-- The block that a grid point stores, element by element: query row `y 1` of the block, head `8 g + y 2 / 256`. -/
def block (s : Vec Ideal S3x16 .f32) (x : Vec Ideal S1x512x2048 .fp8e4m3) (k v : Vec Ideal S1x2048x256 .fp8e4m3) (g : Fin 2)
    (q : Fin 512) (r : Fin 8) (d : Fin 256) : EReal :=
  Row.kernelRow (fun t => ∑ e : Fin 256, x (ix3 0 q ⟨r.val * 256 + e.val, by omega⟩) * k (ix3 0 t e)) (fun t => v (ix3 0 t d))
    (s (ix2 0 (head g r.val r.isLt)) * (((Real.log 2)⁻¹ : ℝ) : EReal)) (s (ix2 2 (head g r.val r.isLt)))

/-- A load of one scale reads the place that `offs` gives. -/
theorem ld_scale (s : Vec Ideal S3x16 .f32) (off : Fin 2 → ℕ) (inb) (f : (Rect.unit (s := S3x16) off ![1, 1] inb).shape.Idx)
    (p : Fin 3) (h : Fin 16) (ho : off = ![p.val, h.val]) : View.ld s (Rect.unit (s := S3x16) off ![1, 1] inb) f = s (ix2 p h) := by
  subst ho
  refine View.ld_unit_apply_of s _ _ _ f (ix2 p h) fun a => ?_
  have hf : (f a : ℕ) = 0 := by
    have hlt : (f a : ℕ) < (![1, 1] : Fin 2 → ℕ) a := (f a).isLt
    match a with
    | ⟨0, _⟩ => exact Nat.lt_one_iff.mp hlt
    | ⟨1, _⟩ => exact Nat.lt_one_iff.mp hlt
  rw [hf]
  match a with
  | ⟨0, _⟩ => rfl
  | ⟨1, _⟩ => rfl

/-- A unit's stored element is the block's element at its place: unit head `n`, query rows from `row`, columns from `256 n`. -/
theorem piece (s : Vec Ideal S3x16 .f32) (x : Vec Ideal S1x512x2048 .fp8e4m3) (k v : Vec Ideal S1x2048x256 .fp8e4m3)
    (hs : ∀ h : Fin 16, ¬ (s (ix2 1 h) : EReal) < 0) (i : grid0.Coords) (n row col : ℕ) (hn8 : n < 8) (inb1 inb2 inb3 f1 f2 f3 inb)
    (z : S1x256x256.Idx) (q : Fin 512) (r : Fin 8) (d : Fin 256) (hq : q.val = row + (z 1).val)
    (hd : r.val * 256 + d.val = col + (z 2).val) (hn : col = n * 256) :
    unit (k0_pay1 k) (k0_pay2 v)
        (View.ld s (Rect.unit (s := S3x16) (k0_off1 i (BitVec.ofNat 32 n)) ![1, 1] inb1) f1)
        (View.ld s (Rect.unit (s := S3x16) (k0_off2 i (BitVec.ofNat 32 n)) ![1, 1] inb2) f2)
        (View.ld s (Rect.unit (s := S3x16) (k0_off3 i (BitVec.ofNat 32 n)) ![1, 1] inb3) f3)
        (View.ld x (Rect.unit (s := S1x512x2048) ![0, row, col] ![1, 256, 256] inb)) z
      = block s x k v (i 1) q r d := by
  obtain ⟨z0, z1, z2, rfl⟩ : ∃ (a : Fin 1) (b c : Fin 256), z = ix3 a b c := ⟨z 0, z 1, z 2, eq_ix3 z⟩
  have hq' : q.val = row + z1.val := hq
  have hd' : r.val * 256 + d.val = col + z2.val := hd
  have hr : n = r.val := by omega
  have hz : z2 = d := Fin.ext (by omega)
  subst hr; subst hz
  obtain ⟨o1, o2, o3⟩ := offs i r
  rw [ld_scale s _ _ _ 0 (head (i 1) r.val r.isLt) o1, ld_scale s _ _ _ 1 (head (i 1) r.val r.isLt) o2,
    ld_scale s _ _ _ 2 (head (i 1) r.val r.isLt) o3, unit_apply _ _ _ _ _ _ (hs _)]
  unfold block
  congr 1
  funext t
  refine Finset.sum_congr rfl fun e _ => ?_
  congr 1
  refine View.ld_unit_apply_of x _ _ _ _ _ fun a => ?_
  match a with
  | ⟨0, _⟩ => rfl
  | ⟨1, _⟩ => exact hq'
  | ⟨2, _⟩ => exact congrArg (· + e.val) hn.symm

variable (m : (ℓ : Loc nD τ sig) → Buf (Elt Ideal) ℓ)

/-- The scales as a grid point reads them. -/
abbrev scaleBlk (c : Dev nD) (t : Fin cfg0.N) : Vec Ideal S3x16 .f32 := iblk m c 0 t

/-- WHAT A GRID POINT STORES: all sixteen units, read as one function of the point's blocks. -/
theorem outsAt0_apply (c : Dev nD) (t : Fin cfg0.N) (hs : ∀ h : Fin 16, ¬ (scaleBlk m c t (ix2 1 h) : EReal) < 0)
    (q : Fin 512) (r : Fin 8) (d : Fin 256) :
    outsAt0 m c t (ix3 0 q ⟨r.val * 256 + d.val, by omega⟩)
      = block (scaleBlk m c t) (iblk m c 1 t) (iblk m c 2 t) (iblk m c 3 t) (grid0.coords t 1) q r d := by
  unfold outsAt0
  frame_out
  canon_tiles x h
  all_goals
    have hq : q.val = _ := h1
    have hd : r.val * 256 + d.val = _ := h2
    exact piece _ _ _ _ hs _ _ _ _ (by decide) _ _ _ _ _ _ _ x q r d (by omega) (by omega) rfl

end Cert.KernelIdeal.Block

end
-- ==== Proof.Scales.lean ====
/- The precondition read at a head, and the kernel's three rows of scales, computed before the kernel from the scale arguments. -/
module

public import proofs.«01_k».proof.Defs
public import proofs.«01_k».proof.Proof.Block
public import proofs.«01_k».proof.Proof.Gen.Pre_scales_ok
public import Idealize.ShloMosaic.Lib.StableHlo.ReadAt

@[expose] public section

set_option maxRecDepth 16384

noncomputable section

namespace Cert.KernelIdeal.Scales

open Cert.KernelIdeal Cert.KernelIdeal.Gen Idealize.ShloMosaic Idealize.ShloMosaic.StableHlo

/-- A comparison's bit is one only where the comparison holds. -/
theorem of_bit {p : Prop} [Decidable p] (h : BitVec.ofBool (decide p) = 1#1) : p := by
  by_contra hp
  simp [hp] at h

/-- A head is the member `h % 8` of its group of eight. -/
theorem head_eq (h : Fin 16) (lt : h.val / 8 * 8 + h.val % 8 < 16) : (⟨h.val / 8 * 8 + h.val % 8, lt⟩ : Fin 16) = h :=
  Fin.ext (by simp only; omega)

/-- The precondition at head `h`: the query scale times the key scale is at least zero and less than +∞. -/
theorem pre_apply [Cert.Pre_scales_ok.Facts] (x : FVec Ideal Cert.Pre_scales_ok.S8x2048x4096 .fp8e4m3)
    (k v : FVec Ideal Cert.Pre_scales_ok.S8x2048x512 .fp8e4m3) (qs : FVec Ideal Cert.Pre_scales_ok.S16 .f32)
    (ks vs : FVec Ideal Cert.Pre_scales_ok.S2 .f32)
    (h0 : (Cert.Pre_scales_ok.fn (F := Ideal) x k v qs ks vs).1 = fun _ => 1#1)
    (h1 : (Cert.Pre_scales_ok.fn (F := Ideal) x k v qs ks vs).2 = fun _ => 1#1) (h : Fin 16) :
    0 ≤ (qs (ix1 h) * ks (ix1 (Spec.group h)) : EReal) ∧ (qs (ix1 h) * ks (ix1 (Spec.group h)) : EReal) < ⊤ := by
  have a0 := congrFun h0 (ix2 (⟨h.val / 8, by omega⟩ : Fin 2) (⟨h.val % 8, by omega⟩ : Fin 8))
  have a1 := congrFun h1 (ix2 (⟨h.val / 8, by omega⟩ : Fin 2) (⟨h.val % 8, by omega⟩ : Fin 8))
  unfold Cert.Pre_scales_ok.fn at a0 a1
  pointwise at a0
  pointwise at a1
  simp only [head_eq, Spec.ofBits_top] at a0 a1
  exact ⟨of_bit a0, of_bit a1⟩

/-- So the scale of head `h`'s scores is a nonnegative real number. -/
theorem scale_real (qs : Spec.Heads.Idx → EReal) (ks : Spec.Groups.Idx → EReal) (h : Fin 16)
    (h0 : 0 ≤ qs (ix1 h) * ks (ix1 (Spec.group h))) (h1 : qs (ix1 h) * ks (ix1 (Spec.group h)) < ⊤) :
    ∃ r : ℝ, 0 ≤ r ∧ Spec.scale qs ks h = (r : EReal) := by
  unfold Spec.scale
  generalize qs (ix1 h) * ks (ix1 (Spec.group h)) = y at h0 h1
  lift y to ℝ using ⟨h1.ne, (lt_of_lt_of_le EReal.bot_lt_zero h0).ne'⟩
  refine ⟨y * (1 / 16), mul_nonneg (EReal.coe_nonneg.mp h0) (by norm_num), ?_⟩
  rw [EReal.coe_mul]

variable (m : (ℓ : Loc nD τ sig) → Buf (Elt Ideal) ℓ)

/-- The buffers before the last operation ahead of the kernel, which stacks the three rows. -/
abbrev before (c : Dev nD) : Valuation τ sig (Elt Ideal) := upto hostOps0 (fun b => m (c, b)) 17

/-- Row `p` of three stacked rows is the `p`-th of them. -/
theorem stack (A B C : FVec Ideal S1x16 .f32) (h : Fin 16) :
    concatenate S3x16 0 [⟨S1x16, A⟩, ⟨S1x16, B⟩, ⟨S1x16, C⟩] concatenates_S1x16_S1x16_S1x16_S3x16_d0 (ix2 0 h) = A (ix2 0 h)
    ∧ concatenate S3x16 0 [⟨S1x16, A⟩, ⟨S1x16, B⟩, ⟨S1x16, C⟩] concatenates_S1x16_S1x16_S1x16_S3x16_d0 (ix2 1 h) = B (ix2 0 h)
    ∧ concatenate S3x16 0 [⟨S1x16, A⟩, ⟨S1x16, B⟩, ⟨S1x16, C⟩] concatenates_S1x16_S1x16_S1x16_S3x16_d0 (ix2 2 h) = C (ix2 0 h) := by
  refine ⟨?_, ?_, ?_⟩ <;> pointwise

/-- The kernel's array of scales is the stack of the three rows. -/
theorem V15 (c : Dev nD) : V m c main_v15 = concatenate S3x16 0 [⟨S1x16, before m c (Proc.tc.devRef main_v12)⟩,
    ⟨S1x16, before m c (Proc.tc.devRef main_v13)⟩, ⟨S1x16, before m c (Proc.tc.devRef main_v14)⟩]
    concatenates_S1x16_S1x16_S1x16_S3x16_d0 := by
  refine (after_last_write (i := 17) (rest := []) [] rfl rfl (by simp) _).trans ?_
  rw [nary_result]
  rfl

/-- The scale arguments of the program: of the queries, the keys and the values. -/
abbrev qs (c : Dev nD) : Spec.Heads.Idx → EReal := m (c, Proc.tc.devRef main_arg3)
@[inherit_doc qs] abbrev ks (c : Dev nD) : Spec.Groups.Idx → EReal := m (c, Proc.tc.devRef main_arg4)
@[inherit_doc qs] abbrev vs (c : Dev nD) : Spec.Groups.Idx → EReal := m (c, Proc.tc.devRef main_arg5)

/-- Row 0: the absolute value of the scale of each head's scores. -/
theorem row0 (c : Dev nD) (h : Fin 16) :
    V m c main_v15 (ix2 0 h) = max (Spec.scale (qs m c) (ks m c) h) (-Spec.scale (qs m c) (ks m c) h) := by
  rw [V15, (stack _ _ _ h).1]
  after_reads_at
  simp only [head_eq, Spec.ofBits_sixteenth]
  rfl

/-- Row 1: the scale of each head's scores. -/
theorem row1 (c : Dev nD) (h : Fin 16) : V m c main_v15 (ix2 1 h) = Spec.scale (qs m c) (ks m c) h := by
  rw [V15, (stack _ _ _ h).2.1]
  after_reads_at
  simp only [head_eq, Spec.ofBits_sixteenth]
  rfl

/-- Row 2: the scale of each head's output. -/
theorem row2 (c : Dev nD) (h : Fin 16) : V m c main_v15 (ix2 2 h) = Spec.outScale (vs m c) h := by
  rw [V15, (stack _ _ _ h).2.2]
  after_reads_at
  simp only [Spec.ofBits_256th]
  rfl

/-- Every grid point reads the whole array of scales. -/
theorem blk (c : Dev nD) (t : Fin cfg0.N) (p : Fin 3) (h : Fin 16) : Block.scaleBlk m c t (ix2 p h) = V m c main_v15 (ix2 p h) := by
  have idx : ∀ t : Fin cfg0.N, win0_0.index t = ![0, 0] := (by decide +kernel : ∀ t : Fin grid0.N, _)
  blk_ext [iblk, idx t]

end Cert.KernelIdeal.Scales

end
-- ==== Proof.Reference.lean ====
/- What the reference computes, element by element. -/
module

public import proofs.«01_k».proof.Proof.Spec
public import proofs.«01_k».proof.Proof.Gen.ReferenceIdeal.Value

@[expose] public section

set_option maxRecDepth 16384

noncomputable section

namespace Cert.ReferenceIdeal.Apply

open Cert.ReferenceIdeal Cert.ReferenceIdeal.Gen Idealize.ShloMosaic
open scoped BigOperators

/-- THE REFERENCE'S RESULT at (b, q, h · 256 + d) is `Spec.attention` there, for all argument arrays. -/
theorem G6_apply (x : Vec Ideal S8x2048x4096 .fp8e4m3) (k v : Vec Ideal S8x2048x512 .fp8e4m3) (qs : Vec Ideal S16 .f32)
    (ks vs : Vec Ideal S2 .f32) (b : Fin 8) (q : Fin 2048) (h : Fin 16) (d : Fin 256) :
    Value.G6 x k v qs ks vs (ix3 b q (Spec.wide h d)) = Spec.attention x k v qs ks vs b q h d := by
  have hd : (h.val * 256 + d.val) / 2048 = h.val / 8 := by omega
  have hm : (h.val * 256 + d.val) % 256 = d.val := by omega
  have hw : ∀ e : ℕ, h.val / 8 * 2048 + (h.val * 256 + d.val) / 256 % 8 * 256 + e = h.val * 256 + e := fun e => by omega
  have hh : h.val / 8 * 8 + (h.val * 256 + d.val) / 256 % 8 = h.val := by omega
  unfold Spec.attention Row.referenceRow Row.referenceExp Row.top Spec.scores Spec.column Spec.scale Spec.outScale Spec.group
    Spec.wide Spec.narrow
  pointwise [k0_pay1, k0_pay2, k0_pay3]
  simp only [hd, hm, hw, hh, Spec.ofBits_sixteenth, Spec.ofBits_256th, Spec.ofBits_256, Spec.ofBits_448, Spec.ofBits_bot,
    mul_comm (k _) (x _)]

end Cert.ReferenceIdeal.Apply

end
-- ==== Proof.Final.lean ====
/- The kernel's result array: the blocks that the grid points write, put together, are grouped-query attention of the arguments. -/
module

public import proofs.«01_k».proof.Proof.Scales
public import proofs.«01_k».proof.Proof.Reference
public import proofs.«01_k».proof.Proof.Gen.KernelIdeal.Value

@[expose] public section

set_option maxRecDepth 16384

noncomputable section

namespace Cert.KernelIdeal.Final

open Cert.KernelIdeal Cert.KernelIdeal.Gen Idealize.ShloMosaic Idealize.ShloMosaic.TcCoe
open scoped BigOperators

variable (m : (ℓ : Loc nD τ sig) → Buf (Elt Ideal) ℓ)

/-- The queries, the keys and the values that the program is given. -/
abbrev xs (c : Dev nD) : Spec.Wide.Idx → EReal := m (c, Proc.tc.devRef main_arg0)
@[inherit_doc xs] abbrev keys (c : Dev nD) : Spec.Narrow.Idx → EReal := m (c, Proc.tc.devRef main_arg1)
@[inherit_doc xs] abbrev vals (c : Dev nD) : Spec.Narrow.Idx → EReal := m (c, Proc.tc.devRef main_arg2)

/-- The result array: attention of the six arguments at every index. -/
def G (c : Dev nD) (j : S8x2048x4096.Idx) : EReal :=
  Spec.attention (xs m c) (keys m c) (vals m c) (Scales.qs m c) (Scales.ks m c) (Scales.vs m c) (j 0) (j 1)
    ⟨(j 2).val / 256, by have := (j 2).isLt; change (j 2).val < 4096 at this; omega⟩ ⟨(j 2).val % 256, by omega⟩

/-- Which block each window hands a grid point: of the queries and of the result the block of its batch member, query block and
    key head; of the keys and of the values its batch member's and key head's columns. -/
theorem idx : ∀ t : Fin cfg0.N,
    win0_1.index t = ![(grid0.coords t 0).val, (grid0.coords t 2).val, (grid0.coords t 1).val]
      ∧ win0_2.index t = ![(grid0.coords t 0).val, 0, (grid0.coords t 1).val]
      ∧ win0_3.index t = ![(grid0.coords t 0).val, 0, (grid0.coords t 1).val]
      ∧ win0_4.index t = ![(grid0.coords t 0).val, (grid0.coords t 2).val, (grid0.coords t 1).val] :=
  (by decide +kernel : ∀ t : Fin grid0.N, _)

/-- A grid point's coordinates are within the grid. -/
theorem coord_lt (t : Fin cfg0.N) : (grid0.coords t 0).val < 8 ∧ (grid0.coords t 1).val < 2 ∧ (grid0.coords t 2).val < 4 :=
  ⟨(grid0.coords t 0).isLt, (grid0.coords t 1).isLt, (grid0.coords t 2).isLt⟩

/-- The queries' block of a grid point, read at an index. -/
theorem blk1 (c : Dev nD) (t : Fin cfg0.N) (q : Fin 512) (r : Fin 8) (e : Fin 256) (b : Fin 8) (Q : Fin 2048) (h : Fin 16)
    (hb : b.val = (grid0.coords t 0).val) (hQ : Q.val = (grid0.coords t 2).val * 512 + q.val)
    (hh : h.val = (grid0.coords t 1).val * 8 + r.val) :
    iblk m c 1 t (ix3 0 q (⟨r.val * 256 + e.val, by omega⟩ : Fin 2048)) = xs m c (ix3 b Q (Spec.wide h e)) := by
  unfold xs Spec.wide
  rw [← V_main_arg0 m c]
  blk_ext [iblk, idx t]

/-- The keys' block of a grid point, read at an index. -/
theorem blk2 (c : Dev nD) (t : Fin cfg0.N) (s : Fin 2048) (e : Fin 256) (b : Fin 8) (g : Fin 2)
    (hb : b.val = (grid0.coords t 0).val) (hg : g.val = (grid0.coords t 1).val) :
    iblk m c 2 t (ix3 0 s e) = keys m c (ix3 b s (Spec.narrow g e)) := by
  unfold keys Spec.narrow
  rw [← V_main_arg1 m c]
  blk_ext [iblk, idx t]

/-- The values' block of a grid point, read at an index. -/
theorem blk3 (c : Dev nD) (t : Fin cfg0.N) (s : Fin 2048) (e : Fin 256) (b : Fin 8) (g : Fin 2)
    (hb : b.val = (grid0.coords t 0).val) (hg : g.val = (grid0.coords t 1).val) :
    iblk m c 3 t (ix3 0 s e) = vals m c (ix3 b s (Spec.narrow g e)) := by
  unfold vals Spec.narrow
  rw [← V_main_arg2 m c]
  blk_ext [iblk, idx t]

/-- WHAT A GRID POINT STORES is attention at the place of the array where its block lies, under the precondition on the scales. -/
theorem block_eq (c : Dev nD) (t : Fin cfg0.N)
    (hpre : ∀ h : Fin 16, 0 ≤ Scales.qs m c (ix1 h) * Scales.ks m c (ix1 (Spec.group h))
      ∧ Scales.qs m c (ix1 h) * Scales.ks m c (ix1 (Spec.group h)) < ⊤)
    (q : Fin 512) (r : Fin 8) (d : Fin 256) (b : Fin 8) (Q : Fin 2048) (h : Fin 16)
    (hb : b.val = (grid0.coords t 0).val) (hQ : Q.val = (grid0.coords t 2).val * 512 + q.val)
    (hh : h.val = (grid0.coords t 1).val * 8 + r.val) :
    outsAt0 m c t (ix3 0 q (⟨r.val * 256 + d.val, by omega⟩ : Fin 2048))
      = Spec.attention (xs m c) (keys m c) (vals m c) (Scales.qs m c) (Scales.ks m c) (Scales.vs m c) b Q h d := by
  have real : ∀ h : Fin 16, ∃ a : ℝ, 0 ≤ a ∧ Spec.scale (Scales.qs m c) (Scales.ks m c) h = (a : EReal) := fun h =>
    Scales.scale_real _ _ h (hpre h).1 (hpre h).2
  have hhead : Block.head (grid0.coords t 1) r.val r.isLt = h := Fin.ext hh.symm
  have hg : (Spec.group h).val = (grid0.coords t 1).val := by
    have := coord_lt t
    show h.val / 8 = _
    omega
  rw [Block.outsAt0_apply m c t (fun h => by
    rw [Scales.blk, Scales.row1]
    obtain ⟨a, ha, e⟩ := real h
    rw [e]
    exact not_lt.mpr (EReal.coe_nonneg.mpr ha))]
  unfold Block.block Spec.attention
  rw [hhead, Scales.blk, Scales.blk, Scales.row0, Scales.row2]
  obtain ⟨a, ha, e⟩ := real h
  rw [e, ← EReal.coe_neg, max_eq_left (EReal.coe_le_coe_iff.mpr (by linarith)), Row.kernelRow_eq _ _ ha]
  congr 1
  · funext s
    exact Finset.sum_congr rfl fun e _ => congrArg₂ (· * ·) (blk1 m c t q r e b Q h hb hQ hh) (blk2 m c t s e b _ hb hg)
  · funext s
    exact blk3 m c t s d b _ hb hg

/-- THE RESULT ARRAY after the run is attention of the arguments, under the precondition on the scales. -/
theorem final (c : Dev nD)
    (hpre : ∀ h : Fin 16, 0 ≤ Scales.qs m c (ix1 h) * Scales.ks m c (ix1 (Spec.group h))
      ∧ Scales.qs m c (ix1 h) * Scales.ks m c (ix1 (Spec.group h)) < ⊤) :
    (dats m 0 c).arrAt 4 cfg0.N = G m c := by
  refine (dats m 0 c).arrAt_eq_of_covers 4 _ (by decide +kernel) fun t hf y => ?_
  blk_simp
  rw [after0_4]
  have hc := coord_lt t
  obtain ⟨z, q, w, rfl⟩ : ∃ (z : Fin 1) (q : Fin 512) (w : Fin 2048), y = ix3 z q w := ⟨y 0, y 1, y 2, eq_ix3 y⟩
  obtain rfl : z = 0 := Subsingleton.elim _ _
  have e0 : ((win0_4.blk t).view.emb (ix3 0 q w) 0).val = (grid0.coords t 0).val := by
    blk_simp [idx t]
    rfl
  have e1 : ((win0_4.blk t).view.emb (ix3 0 q w) 1).val = (grid0.coords t 2).val * 512 + q.val := by
    blk_simp [idx t]
  have e2 : ((win0_4.blk t).view.emb (ix3 0 q w) 2).val = (grid0.coords t 1).val * 2048 + w.val := by
    blk_simp [idx t]
  have hw : w = (⟨w.val / 256 * 256 + w.val % 256, by omega⟩ : Fin 2048) := Fin.ext (by simp only; omega)
  unfold G
  generalize (win0_4.blk t).view.emb (ix3 0 q w) = j at e0 e1 e2
  have hd : (⟨(j 2).val % 256, by omega⟩ : Fin 256) = ⟨w.val % 256, by omega⟩ := Fin.ext (by simp only; omega)
  rw [hd]
  refine (congrArg (fun u => outsAt0 m c t (ix3 0 q u)) hw).trans ?_
  refine block_eq m c t hpre q ⟨w.val / 256, by omega⟩ ⟨w.val % 256, by omega⟩ _ _ _ e0 e1 ?_
  simp only
  omega

/-- The result array is the reference's function of the same arguments, under the precondition on the scales. -/
theorem final_eq (c : Dev nD)
    (hpre : ∀ h : Fin 16, 0 ≤ Scales.qs m c (ix1 h) * Scales.ks m c (ix1 (Spec.group h))
      ∧ Scales.qs m c (ix1 h) * Scales.ks m c (ix1 (Spec.group h)) < ⊤) :
    (dats m 0 c).arrAt 4 cfg0.N
      = Cert.ReferenceIdeal.Value.G6 (F := Ideal) (xs m c) (keys m c) (vals m c) (Scales.qs m c) (Scales.ks m c) (Scales.vs m c) := by
  rw [final m c hpre]
  funext j
  obtain ⟨b, q, w, rfl⟩ : ∃ (b : Fin 8) (q : Fin 2048) (w : Fin 4096), j = ix3 b q w := ⟨j 0, j 1, j 2, eq_ix3 j⟩
  have hw : w = Spec.wide ⟨w.val / 256, by omega⟩ ⟨w.val % 256, by omega⟩ := Fin.ext (by simp only [Spec.wide]; omega)
  refine (Cert.ReferenceIdeal.Apply.G6_apply _ _ _ _ _ _ b q ⟨w.val / 256, by omega⟩ ⟨w.val % 256, by omega⟩).symm.trans ?_
  exact congrArg (fun u => Cert.ReferenceIdeal.Value.G6 (F := Ideal) _ _ _ _ _ _ (ix3 b q u)) hw.symm

end Cert.KernelIdeal.Final

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_scales_ok
public import proofs.«01_k».proof.Proof.Final
public import Idealize.ShloMosaic.Adequacy
public import Idealize.ShloMosaic.Init

@[expose] public section

noncomputable section

namespace Cert.Proof

open Idealize.ShloMosaic Idealize.SL.Sem

/-- Where every head's query scale times key scale is at least zero and finite, the kernel and the reference end with the same
    result over the extended reals, and leave their arguments as they were. -/
theorem algebraic : Cert.algebraic_KernelIdeal_ReferenceIdeal_pre_scales_ok (hKernelIdeal := Cert.KernelIdeal.Gen.facts)
    (hReferenceIdeal := Cert.ReferenceIdeal.Gen.facts) (hPre_scales_ok := Cert.Pre_scales_ok.Gen.facts) := by
  intro m g m' g' hpre hargs
  refine ⟨fun c => (Cert.KernelIdeal.Gen.dats m 0 c).arrAt 4 Cert.KernelIdeal.cfg0.N, KernelIdeal.Value.run_blocks m g, ?_⟩
  refine (θ_run (Cert.ReferenceIdeal.defs (F := Ideal)) _ _).mono (fun r h c => ?_) (ReferenceIdeal.Value.run m' g')
  obtain ⟨hv, hk⟩ := h c
  obtain ⟨a0, a1, a2, a3, a4, a5⟩ := hargs c
  refine ⟨hv.trans ?_, hk⟩
  rw [a0, a1, a2, a3, a4, a5]
  letI := Cert.Pre_scales_ok.Gen.facts
  exact (KernelIdeal.Final.final_eq m c fun h =>
    KernelIdeal.Scales.pre_apply _ _ _ _ _ _ (hpre c).1 (hpre c).2 h).symm

/-- The certificate: every claim. -/
theorem claim : Cert.Claim :=
  ⟨Cert.Kernel.Gen.facts, Cert.KernelIdeal.Gen.facts, Cert.ReferenceIdeal.Gen.facts, Cert.Pre_scales_ok.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.named_const.statement Cert.KernelIdeal.κ "log2_e" .f32 0x3FB8AA3B#32 (((Real.log 2)⁻¹ : ℝ) : EReal) rfl,
    algebraic⟩

end Cert.Proof

end
